-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S8x128x8192 : Shape := ⟨3, ![8, 128, 8192]⟩
abbrev S128 : Shape := ⟨1, ![128]⟩
abbrev S_ : Shape := ⟨0, ![]⟩

class Facts : Prop where
  bcast_S_S8x128x8192 : S_.BroadcastsInDim S8x128x8192 (![] : Fin 0 → Fin S8x128x8192.rank)
  reducesTo_S8x128x8192_S_d0_1_2 : S8x128x8192.ReducesTo [0, 1, 2] S_
  h_S_ : 0 < S_.numel

variable [Facts]

def fn {F : FTy → Type} [FloatOps F] (main_arg0 : FVec F S8x128x8192 .f32) (main_arg1 : FVec F S128 .f32) (main_arg2 : FVec F S128 .f32) (main_arg3 : FVec F S128 .f32) : IVec S_ 1 :=
  let main_cst : FVec F S_ .f32 := constant S_ .f32 0x00000000#32
  let main_v0 : FVec F S8x128x8192 .f32 := broadcastInDim S8x128x8192 ![] bcast_S_S8x128x8192 main_cst
  let main_v1 : IVec S8x128x8192 1 := cmpf .oge main_arg0 main_v0
  let main_c : IVec S_ 1 := constantI S_ 1 1#1
  let main_v2 : IVec S_ 1 := (fun x v => Host.reduce IntOp.andi x v reducesTo_S8x128x8192_S_d0_1_2 h_S_) main_v1 main_c
  main_v2
-- ==== Kernel.lean ====
abbrev S8x128x8192 : Shape := ⟨3, ![8, 128, 8192]⟩
abbrev S128 : Shape := ⟨1, ![128]⟩
abbrev S1x128 : Shape := ⟨2, ![1, 128]⟩
abbrev S4x128 : Shape := ⟨2, ![4, 128]⟩
abbrev S4x1x128x1 : Shape := ⟨4, ![4, 1, 128, 1]⟩
abbrev S4x8x128x256 : Shape := ⟨4, ![4, 8, 128, 256]⟩
abbrev S4x1024x256 : Shape := ⟨3, ![4, 1024, 256]⟩
abbrev S512x4x256 : Shape := ⟨3, ![512, 4, 256]⟩
abbrev S_ : Shape := ⟨0, ![]⟩
abbrev S1 : Shape := ⟨1, ![1]⟩
abbrev S4 : Shape := ⟨1, ![4]⟩
abbrev S1x4x1 : Shape := ⟨3, ![1, 4, 1]⟩
abbrev S512x1024 : Shape := ⟨2, ![512, 1024]⟩
abbrev S8x4x128x8192 : Shape := ⟨4, ![8, 4, 128, 8192]⟩
abbrev S8x128x256 : Shape := ⟨3, ![8, 128, 256]⟩
abbrev S8x4x128x256 : Shape := ⟨4, ![8, 4, 128, 256]⟩
abbrev S1024x256 : Shape := ⟨2, ![1024, 256]⟩
abbrev S1024x1 : Shape := ⟨2, ![1024, 1]⟩
abbrev S1024x512 : Shape := ⟨2, ![1024, 512]⟩
abbrev S1x1024x256 : Shape := ⟨3, ![1, 1024, 256]⟩
abbrev S512x256 : Shape := ⟨2, ![512, 256]⟩
abbrev S8x1x128x256 : Shape := ⟨4, ![8, 1, 128, 256]⟩
abbrev S1024x4 : Shape := ⟨2, ![1024, 4]⟩

abbrev nBuf : Space → Nat
  | .hbm => 81
  | .vmem => 7
  | .smem => 0
  | _ => 0

abbrev bufTy : (tb : Table) → Fin (tcTables nBuf tb) → BufTy
  | .hbm, ⟨0, _⟩ => ⟨S8x128x8192, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S4x128, .f32⟩
  | .hbm, ⟨14, _⟩ => ⟨S4x1x128x1, .f32⟩
  | .hbm, ⟨15, _⟩ => ⟨S4x8x128x256, .f32⟩
  | .hbm, ⟨16, _⟩ => ⟨S4x1024x256, .f32⟩
  | .hbm, ⟨17, _⟩ => ⟨S512x4x256, .i32⟩
  | .hbm, ⟨18, _⟩ => ⟨S512x4x256, .i32⟩
  | .hbm, ⟨19, _⟩ => ⟨S512x4x256, .i32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S1x4x1, .f32⟩
  | .hbm, ⟨46, _⟩ => ⟨S512x4x256, .f32⟩
  | .hbm, ⟨47, _⟩ => ⟨S512x4x256, .f32⟩
  | .hbm, ⟨48, _⟩ => ⟨S512x4x256, .f32⟩
  | .hbm, ⟨49, _⟩ => ⟨S512x4x256, .i32⟩
  | .hbm, ⟨50, _⟩ => ⟨S512x4x256, .f32⟩
  | .hbm, ⟨51, _⟩ => ⟨S512x4x256, .f32⟩
  | .hbm, ⟨52, _⟩ => ⟨S512x4x256, .f32⟩
  | .hbm, ⟨53, _⟩ => ⟨S512x4x256, .f32⟩
  | .hbm, ⟨54, _⟩ => ⟨S_, .i32⟩
  | .hbm, ⟨55, _⟩ => ⟨S512x4x256, .i32⟩
  | .hbm, ⟨56, _⟩ => ⟨S512x4x256, .i32⟩
  | .hbm, ⟨57, _⟩ => ⟨S512x4x256, .f32⟩
  | .hbm, ⟨58, _⟩ => ⟨S512x4x256, .f32⟩
  | .hbm, ⟨59, _⟩ => ⟨S512x4x256, .f32⟩
  | .hbm, ⟨60, _⟩ => ⟨S_, .i32⟩
  | .hbm, ⟨61, _⟩ => ⟨S512x4x256, .i32⟩
  | .hbm, ⟨62, _⟩ => ⟨S512x4x256, .i1⟩
  | .hbm, ⟨63, _⟩ => ⟨S_, .f32⟩
  | .hbm, ⟨64, _⟩ => ⟨S512x4x256, .f32⟩
  | .hbm, ⟨65, _⟩ => ⟨S512x4x256, .f32⟩
  | .hbm, ⟨66, _⟩ => ⟨S_, .f32⟩
  | .hbm, ⟨67, _⟩ => ⟨S512x4x256, .f32⟩
  | .hbm, ⟨68, _⟩ => ⟨S512x4x256, .f32⟩
  | .hbm, ⟨69, _⟩ => ⟨S_, .f32⟩
  | .hbm, ⟨70, _⟩ => ⟨S512x4x256, .f32⟩
  | .hbm, ⟨71, _⟩ => ⟨S512x4x256, .f32⟩
  | .hbm, ⟨72, _⟩ => ⟨S512x4x256, .i1⟩
  | .hbm, ⟨73, _⟩ => ⟨S_, .i32⟩
  | .hbm, ⟨74, _⟩ => ⟨S512x4x256, .i32⟩
  | .hbm, ⟨75, _⟩ => ⟨S512x4x256, .i32⟩
  | .hbm, ⟨76, _⟩ => ⟨S512x4x256, .i1⟩
  | .hbm, ⟨77, _⟩ => ⟨S512x4x256, .f32⟩
  | .hbm, ⟨78, _⟩ => ⟨S512x4x256, .f32⟩
  | .hbm, ⟨79, _⟩ => ⟨S512x1024, .f32⟩
  | .hbm, ⟨80, _⟩ => ⟨S8x4x128x8192, .f32⟩
  | .local _ .vmem, ⟨0, _⟩ => ⟨S8x128x256, .f32⟩
  | .local _ .vmem, ⟨1, _⟩ => ⟨S8x128x256, .f32⟩
  | .local _ .vmem, ⟨2, _⟩ => ⟨S512x1024, .f32⟩
  | .local _ .vmem, ⟨3, _⟩ => ⟨S4x1024x256, .f32⟩
  | .local _ .vmem, ⟨4, _⟩ => ⟨S8x4x128x256, .f32⟩
  | .local _ .vmem, ⟨5, _⟩ => ⟨S8x4x128x256, .f32⟩
  | .local _ .vmem, ⟨6, _⟩ => ⟨S1024x256, .f32⟩
  | _, _ => ⟨S8x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_cst_0 : Ref sig .tc := ⟨.hbm, 21, rfl⟩
abbrev main_cst_1 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S8x128x8192 : Shape := ⟨3, ![8, 128, 8192]⟩
abbrev S128 : Shape := ⟨1, ![128]⟩
abbrev S_ : Shape := ⟨0, ![]⟩
abbrev S1 : Shape := ⟨1, ![1]⟩
abbrev S4 : Shape := ⟨1, ![4]⟩
abbrev S8192x8x128 : Shape := ⟨3, ![8192, 8, 128]⟩
abbrev S1x8x128 : Shape := ⟨3, ![1, 8, 128]⟩
abbrev S8x128 : Shape := ⟨2, ![8, 128]⟩
abbrev S4x8x128 : Shape := ⟨3, ![4, 8, 128]⟩
abbrev S8192x4x8x128 : Shape := ⟨4, ![8192, 4, 8, 128]⟩
abbrev S4x1x1 : Shape := ⟨3, ![4, 1, 1]⟩
abbrev S1x4x8x128 : Shape := ⟨4, ![1, 4, 8, 128]⟩
abbrev S4x8x128x8192 : Shape := ⟨4, ![4, 8, 128, 8192]⟩
abbrev S128x1 : Shape := ⟨2, ![128, 1]⟩
abbrev S1x1x128x1 : Shape := ⟨4, ![1, 1, 128, 1]⟩
abbrev S1x8x128x8192 : Shape := ⟨4, ![1, 8, 128, 8192]⟩
abbrev S8x4x128x8192 : Shape := ⟨4, ![8, 4, 128, 8192]⟩

abbrev nBuf : Space → Nat
  | .hbm => 101
  | .vmem => 0
  | .smem => 0
  | _ => 0

abbrev bufTy : (tb : Table) → Fin (tcTables nBuf tb) → BufTy
  | .hbm, ⟨0, _⟩ => ⟨S8x128x8192, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S8192x8x128, .f32⟩
  | .hbm, ⟨30, _⟩ => ⟨S1x8x128, .f32⟩
  | .hbm, ⟨31, _⟩ => ⟨S8x128, .f32⟩
  | .hbm, ⟨32, _⟩ => ⟨S4x8x128, .f32⟩
  | .hbm, ⟨33, _⟩ => ⟨S_, .f32⟩
  | .hbm, ⟨34, _⟩ => ⟨S8192x4x8x128, .f32⟩
  | .hbm, ⟨35, _⟩ => ⟨S_, .i32⟩
  | .hbm, ⟨36, _⟩ => ⟨S8192x8x128, .f32⟩
  | .hbm, ⟨37, _⟩ => ⟨S4, .f32⟩
  | .hbm, ⟨38, _⟩ => ⟨S_, .i32⟩
  | .hbm, ⟨39, _⟩ => ⟨S4x8x128, .f32⟩
  | .hbm, ⟨40, _⟩ => ⟨S8192x4x8x128, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S1x8x128, .f32⟩
  | .hbm, ⟨46, _⟩ => ⟨S8x128, .f32⟩
  | .hbm, ⟨47, _⟩ => ⟨S1x8x128, .f32⟩
  | .hbm, ⟨48, _⟩ => ⟨S4x1x1, .f32⟩
  | .hbm, ⟨49, _⟩ => ⟨S4x8x128, .f32⟩
  | .hbm, ⟨50, _⟩ => ⟨S4x8x128, .f32⟩
  | .hbm, ⟨51, _⟩ => ⟨S4x8x128, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S4x1x1, .f32⟩
  | .hbm, ⟨56, _⟩ => ⟨S4x8x128, .f32⟩
  | .hbm, ⟨57, _⟩ => ⟨S4x8x128, .f32⟩
  | .hbm, ⟨58, _⟩ => ⟨S4x8x128, .f32⟩
  | .hbm, ⟨59, _⟩ => ⟨S1x4x8x128, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S8192x4x8x128, .f32⟩
  | .hbm, ⟨64, _⟩ => ⟨S_, .i32⟩
  | .hbm, ⟨65, _⟩ => ⟨S_, .i32⟩
  | .hbm, ⟨66, _⟩ => ⟨S4x8x128x8192, .f32⟩
  | .hbm, ⟨67, _⟩ => ⟨S128, .f32⟩
  | .hbm, ⟨68, _⟩ => ⟨S128x1, .f32⟩
  | .hbm, ⟨69, _⟩ => ⟨S128, .f32⟩
  | .hbm, ⟨70, _⟩ => ⟨S128x1, .f32⟩
  | .hbm, ⟨71, _⟩ => ⟨S128, .f32⟩
  | .hbm, ⟨72, _⟩ => ⟨S128x1, .f32⟩
  | .hbm, ⟨73, _⟩ => ⟨S128x1, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4x8x128x8192, .f32⟩
  | .hbm, ⟨78, _⟩ => ⟨S4x8x128x8192, .f32⟩
  | .hbm, ⟨79, _⟩ => ⟨S4x8x128x8192, .f32⟩
  | .hbm, ⟨80, _⟩ => ⟨S_, .f32⟩
  | .hbm, ⟨81, _⟩ => ⟨S4x8x128x8192, .f32⟩
  | .hbm, ⟨82, _⟩ => ⟨S4x8x128x8192, .f32⟩
  | .hbm, ⟨83, _⟩ => ⟨S1x1x128x1, .f32⟩
  | .hbm, ⟨84, _⟩ => ⟨S4x8x128x8192, .f32⟩
  | .hbm, ⟨85, _⟩ => ⟨S4x8x128x8192, .f32⟩
  | .hbm, ⟨86, _⟩ => ⟨S4x8x128x8192, .f32⟩
  | .hbm, ⟨87, _⟩ => ⟨S1x8x128x8192, .f32⟩
  | .hbm, ⟨88, _⟩ => ⟨S4x8x128x8192, .f32⟩
  | .hbm, ⟨89, _⟩ => ⟨S4x8x128x8192, .f32⟩
  | .hbm, ⟨90, _⟩ => ⟨S1x1x128x1, .f32⟩
  | .hbm, ⟨91, _⟩ => ⟨S4x8x128x8192, .f32⟩
  | .hbm, ⟨92, _⟩ => ⟨S4x8x128x8192, .f32⟩
  | .hbm, ⟨93, _⟩ => ⟨S1x1x128x1, .f32⟩
  | .hbm, ⟨94, _⟩ => ⟨S4x8x128x8192, .f32⟩
  | .hbm, ⟨95, _⟩ => ⟨S4x8x128x8192, .f32⟩
  | .hbm, ⟨96, _⟩ => ⟨S128x1, .f32⟩
  | .hbm, ⟨97, _⟩ => ⟨S1x1x128x1, .f32⟩
  | .hbm, ⟨98, _⟩ => ⟨S4x8x128x8192, .f32⟩
  | .hbm, ⟨99, _⟩ => ⟨S4x8x128x8192, .f32⟩
  | .hbm, ⟨100, _⟩ => ⟨S8x4x128x8192, .f32⟩
  | _, _ => ⟨S8x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_c : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev main_v22_4 : Ref sig .tc := ⟨.hbm, 40, rfl⟩
abbrev main_while0c_c_14 : Ref sig .tc := ⟨.hbm, 41, rfl⟩
abbrev main_while0c_v56 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_v0 : Ref sig .tc := ⟨.hbm, 45, rfl⟩
abbrev main_while0b_v56 : Ref sig .tc := ⟨.hbm, 46, rfl⟩
abbrev main_while0b_v57 : Ref sig .tc := ⟨.hbm, 47, rfl⟩
abbrev main_while0b_v58 : Ref sig .tc := ⟨.hbm, 48, rfl⟩
abbrev main_while0b_v59 : Ref sig .tc := ⟨.hbm, 49, rfl⟩
abbrev main_while0b_v60 : Ref sig .tc := ⟨.hbm, 50, rfl⟩
abbrev main_while0b_v61 : Ref sig .tc := ⟨.hbm, 51, rfl⟩
abbrev main_while0b_cst_14 : Ref sig .tc := ⟨.hbm, 52, rfl⟩
abbrev main_while0b_v62 : Ref sig .tc := ⟨.hbm, 53, rfl⟩
abbrev main_while0b_v63 : Ref sig .tc := ⟨.hbm, 54, rfl⟩
abbrev main_while0b_v64 : Ref sig .tc := ⟨.hbm, 55, rfl⟩
abbrev main_while0b_v65 : Ref sig .tc := ⟨.hbm, 56, rfl⟩
abbrev main_while0b_v66 : Ref sig .tc := ⟨.hbm, 57, rfl⟩
abbrev main_while0b_v67 : Ref sig .tc := ⟨.hbm, 58, rfl⟩
abbrev main_while0b_call1_v0 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_v68 : Ref sig .tc := ⟨.hbm, 63, rfl⟩
abbrev main_while0b_c_15 : Ref sig .tc := ⟨.hbm, 64, rfl⟩
abbrev main_while0b_v69 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_8 : Ref sig .tc := ⟨.hbm, 74, rfl⟩
abbrev main_v31 : Ref sig .tc := ⟨.hbm, 75, rfl⟩
abbrev main_cst_9 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩

abbrev nD : Nat := 1
abbrev τ : Topo := Topo.v7x

variable {F : FTy → Type} [FloatOps F]

abbrev main_while0_count : Scf.Loop 32 := ⟨0#32, 8192#32, 1#32⟩
-- ==== Proof.Math.lean ====
/- The arithmetic of the proof, over the extended reals: the constants both programs name, the smoothing coefficient, the
   exponential moving average and its closed form over a block of steps, and the identities that turn powers of two and
   logarithms into the reference's exponentials and powers. -/
module

public import Idealize.ShloMosaic.Lib.Pointwise
public import Mathlib.Analysis.SpecialFunctions.Pow.Real

@[expose] public section

noncomputable section

namespace Pcen

open Idealize.ShloMosaic

/-! ## Constants -/

/-- The small number that is added to the smoothed energy, as the real number its binary word denotes. -/
def epsR : ℝ := 10995116 / 2 ^ 40

/-- It is positive. -/
theorem epsR_pos : 0 < epsR := by unfold epsR; norm_num

/-- Its word denotes it. -/
theorem word_eps : Ideal.ofBits .f32 0x3727C5AC#32 = ((epsR : ℝ) : EReal) := by
  simp [Ideal.ofBits, Ideal.ieee, -EReal.coe_mul, epsR]; norm_num

/-- The word of two. -/
theorem word_two : Ideal.ofBits .f32 0x40000000#32 = ((2 : ℝ) : EReal) := by
  simp [Ideal.ofBits, Ideal.ieee, -EReal.coe_mul]; norm_num

/-- The word of four. -/
theorem word_four : Ideal.ofBits .f32 0x40800000#32 = ((4 : ℝ) : EReal) := by
  simp [Ideal.ofBits, Ideal.ieee, -EReal.coe_mul]; norm_num

/-- The word of eight. -/
theorem word_eight : Ideal.ofBits .f32 0x41000000#32 = ((8 : ℝ) : EReal) := by
  simp [Ideal.ofBits, Ideal.ieee, -EReal.coe_mul]; norm_num

/-- The word of thirty-two. -/
theorem word_thirtytwo : Ideal.ofBits .f32 0x42000000#32 = ((32 : ℝ) : EReal) := by
  simp [Ideal.ofBits, Ideal.ieee, -EReal.coe_mul]; norm_num

/-- The word of one hundred and twenty-eight. -/
theorem word_onetwentyeight : Ideal.ofBits .f32 0x43000000#32 = ((128 : ℝ) : EReal) := by
  simp [Ideal.ofBits, Ideal.ieee, -EReal.coe_mul]; norm_num

/-- The word of one, as a real number. -/
theorem word_one : Ideal.ofBits .f32 0x3F800000#32 = ((1 : ℝ) : EReal) := by
  simp [Ideal.ofBits, Ideal.ieee, -EReal.coe_mul]; norm_num

/-! ## The smoothing coefficient -/

/-- The four time constants. -/
def tau (t : ℕ) : ℝ := if t = 0 then 2 else if t = 1 then 8 else if t = 2 then 32 else 128

/-- Every time constant is positive. -/
theorem tau_pos (t : ℕ) : 0 < tau t := by unfold tau; split_ifs <;> norm_num

/-- The smoothing coefficient of time constant `T`: `(sqrt (1 + 4 T²) - 1) / (2 T²)`. -/
def coef (T : ℝ) : ℝ := (Real.sqrt (1 + 4 * (T * T)) - 1) / (2 * (T * T))

/-- The coefficient is positive. -/
theorem coef_pos {T : ℝ} (h : 0 < T) : 0 < coef T := by
  have hT : 0 < T * T := mul_pos h h
  have h1 : 1 < Real.sqrt (1 + 4 * (T * T)) := by
    rw [Real.lt_sqrt (by norm_num)]; nlinarith
  unfold coef; exact div_pos (by linarith) (by linarith)

/-- The coefficient is below one. -/
theorem coef_lt_one {T : ℝ} (h : 0 < T) : coef T < 1 := by
  have hT : 0 < T * T := mul_pos h h
  have h1 : Real.sqrt (1 + 4 * (T * T)) < 1 + 2 * (T * T) := by
    rw [Real.sqrt_lt' (by linarith)]; nlinarith
  unfold coef; rw [div_lt_one (by linarith)]; linarith

/-- The smoothing coefficient of the `t`-th time constant. -/
def sR (t : ℕ) : ℝ := coef (tau t)

/-- It is positive. -/
theorem sR_pos (t : ℕ) : 0 < sR t := coef_pos (tau_pos t)

/-- It is below one. -/
theorem sR_lt_one (t : ℕ) : sR t < 1 := coef_lt_one (tau_pos t)

/-- The coefficient as the programs compute it from a real time constant, whichever way `4 T²` and `2 T²` are bracketed. -/
theorem coef_ideal {T a b : ℝ} (h : 0 < T) (ha : a = 4 * (T * T)) (hb : b = 2 * (T * T)) :
    Ideal.div (Ideal.sqrt (((1 : ℝ) : EReal) + (a : EReal)) - ((1 : ℝ) : EReal)) (b : EReal) = ((coef T : ℝ) : EReal) := by
  subst ha hb
  have hT : 0 < T * T := mul_pos h h
  have hb : ((2 * (T * T) : ℝ) : EReal) ≠ 0 := by
    rw [← EReal.coe_zero, Ne, EReal.coe_eq_coe_iff]; linarith
  have hs : Ideal.sqrt (((1 + 4 * (T * T) : ℝ)) : EReal) = ((Real.sqrt (1 + 4 * (T * T)) : ℝ) : EReal) := by
    show (if (1 + 4 * (T * T) : ℝ) < 0 then ⊥ else _) = _
    rw [if_neg (by linarith)]
  rw [← EReal.coe_add, hs, ← EReal.coe_sub]
  unfold Ideal.div
  rw [if_neg hb, ← EReal.coe_inv, ← EReal.coe_mul]
  rfl

/-! ## Exponentials and logarithms -/

/-- The exponential of a real number. -/
theorem exp_coe (r : ℝ) : Ideal.exp (r : EReal) = ((Real.exp r : ℝ) : EReal) := rfl

/-- The logarithm of a positive real number. -/
theorem log_coe {r : ℝ} (h : 0 < r) : Ideal.log (r : EReal) = ((Real.log r : ℝ) : EReal) := by
  show (if r ≤ 0 then ⊥ else _) = _
  rw [if_neg (not_le.mpr h)]

/-- The logarithm of a real number that is not positive. -/
theorem log_coe_nonpos {r : ℝ} (h : r ≤ 0) : Ideal.log (r : EReal) = ⊥ := by
  show (if r ≤ 0 then ⊥ else _) = _
  rw [if_pos h]

/-- An exponential is never negative. -/
theorem exp_nonneg (z : EReal) : 0 ≤ Ideal.exp z := by
  induction z with
  | bot => exact le_refl _
  | top => exact le_top
  | coe r => rw [exp_coe]; exact_mod_cast (Real.exp_pos r).le

/-- A power of two whose exponent is scaled by `1 / log 2` is an exponential. -/
theorem exp2_scaled (z : EReal) : Ideal.exp2 (z * (((Real.log 2)⁻¹ : ℝ) : EReal)) = Ideal.exp z := by
  have h2 : 0 < Real.log 2 := Real.log_pos (by norm_num)
  have hi : 0 < (Real.log 2)⁻¹ := inv_pos.mpr h2
  induction z with
  | bot => rw [EReal.bot_mul_coe_of_pos hi]; rfl
  | top => rw [EReal.top_mul_coe_of_pos hi]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    field_simp

/-- The same where the scale sits on the first factor of a product. -/
theorem exp2_scaled_mul (a z : EReal) : Ideal.exp2 (a * (((Real.log 2)⁻¹ : ℝ) : EReal) * z) = Ideal.exp (a * z) := by
  rw [mul_right_comm, exp2_scaled]

/-- `log ε + log (1 + m / ε) = log (m + ε)`, for every extended real `m`. -/
theorem log_split (m : EReal) :
    Ideal.log (epsR : EReal) + Ideal.log1p (Ideal.div m (epsR : EReal)) = Ideal.log (m + (epsR : EReal)) := by
  have he := epsR_pos
  have hne : ((epsR : ℝ) : EReal) ≠ 0 := by exact_mod_cast he.ne'
  have hi : 0 < epsR⁻¹ := inv_pos.mpr he
  unfold Ideal.div Ideal.log1p
  rw [if_neg hne, log_coe he, ← EReal.coe_inv]
  induction m with
  | bot =>
    rw [EReal.bot_mul_coe_of_pos hi, EReal.add_bot, EReal.bot_add]
    exact EReal.add_bot _
  | top =>
    rw [EReal.top_mul_coe_of_pos hi, EReal.top_add_coe]
    show _ + Ideal.log (((1 : ℝ) : EReal) + ⊤) = _
    rw [EReal.coe_add_top]
    exact EReal.coe_add_top _
  | coe r =>
    rw [← EReal.coe_mul, ← EReal.coe_one, ← EReal.coe_add, ← EReal.coe_add]
    have hm : (r + epsR) = epsR * (1 + r * epsR⁻¹) := by field_simp; ring
    by_cases h : 0 < 1 + r * epsR⁻¹
    · rw [log_coe h, hm, log_coe (mul_pos he h), ← EReal.coe_add, Real.log_mul he.ne' h.ne']
    · have h' : r + epsR ≤ 0 := by
        rw [hm]; exact mul_nonpos_of_nonneg_of_nonpos he.le (not_lt.mp h)
      rw [log_coe_nonpos (not_lt.mp h), log_coe_nonpos h']
      exact EReal.add_bot _

/-- `exp (r log y) = y ^ r` for `y ≥ 0` and `r ≥ 0`, the infinite values included. -/
theorem exp_mul_log {y r : EReal} (hy : 0 ≤ y) (hr : 0 ≤ r) : Ideal.exp (r * Ideal.log y) = Ideal.pow y r := by
  induction y with
  | bot => exact absurd hy (by simp)
  | top =>
    show Ideal.exp (r * ⊤) = if 0 < r then ⊤ else if r = 0 then 1 else 0
    rcases hr.eq_or_lt with h | h
    · subst h; rw [zero_mul, if_neg (lt_irrefl _), if_pos rfl]
      show ((Real.exp 0 : ℝ) : EReal) = 1
      rw [Real.exp_zero]; rfl
    · rw [EReal.mul_top_of_pos h, if_pos h]; rfl
  | coe y =>
    have hy' : 0 ≤ y := by exact_mod_cast hy
    rcases hy'.eq_or_lt with h0 | hpos
    · subst h0
      rw [log_coe_nonpos le_rfl]
      induction r with
      | bot => exact absurd hr (by simp)
      | top =>
        rw [EReal.top_mul_bot]
        show (0 : EReal) = if (0 : ℝ) < 0 then ⊥ else if (1 : ℝ) < 0 then ⊤ else if (0 : ℝ) = 1 then 1 else 0
        norm_num
      | coe r =>
        have hr' : 0 ≤ r := by exact_mod_cast hr
        show _ = ((Real.rpow 0 r : ℝ) : EReal)
        rcases hr'.eq_or_lt with h | h
        · subst h
          rw [EReal.coe_zero, zero_mul]
          show ((Real.exp 0 : ℝ) : EReal) = (((0 : ℝ) ^ (0 : ℝ) : ℝ) : EReal)
          rw [Real.exp_zero, Real.rpow_zero]
        · rw [EReal.coe_mul_bot_of_pos h]
          show (0 : EReal) = (((0 : ℝ) ^ r : ℝ) : EReal)
          rw [Real.zero_rpow h.ne']; rfl
    · rw [log_coe hpos]
      induction r with
      | bot => exact absurd hr (by simp)
      | top =>
        show _ = if y < 0 then ⊥ else if 1 < y then ⊤ else if y = 1 then 1 else 0
        rw [if_neg (not_lt.mpr hy')]
        rcases lt_trichotomy y 1 with h | h | h
        · rw [EReal.top_mul_coe_of_neg (Real.log_neg hpos h), if_neg (not_lt.mpr h.le), if_neg h.ne]; rfl
        · subst h
          rw [Real.log_one, EReal.coe_zero, mul_zero, if_neg (lt_irrefl _), if_pos rfl]
          show ((Real.exp 0 : ℝ) : EReal) = 1
          rw [Real.exp_zero]; rfl
        · rw [EReal.top_mul_coe_of_pos (Real.log_pos h), if_pos h]; rfl
      | coe r =>
        rw [← EReal.coe_mul, exp_coe]
        show _ = ((y ^ r : ℝ) : EReal)
        rw [Real.rpow_def_of_pos hpos, mul_comm]

/-- A power of `1 - s` as the table's exponential of a multiple of `log (1 - s)`. -/
theorem exp_log1p_mul {s : ℝ} (h1 : s < 1) (n : ℕ) :
    Ideal.exp (Ideal.log1p (-(s : EReal)) * (((n : ℝ)) : EReal)) = (((1 - s) ^ n : ℝ) : EReal) := by
  have hq : 0 < 1 + -s := by linarith
  unfold Ideal.log1p
  rw [← EReal.coe_neg, ← EReal.coe_one, ← EReal.coe_add, log_coe hq, ← EReal.coe_mul, exp_coe]
  congr 1
  rw [mul_comm, Real.exp_nat_mul, Real.exp_log hq, sub_eq_add_neg]

/-! ## The moving average -/

/-- The exponential moving average of the series `x` after `n` steps, started at the series' first value. -/
def ema (s : ℝ) (x : ℕ → EReal) : ℕ → EReal
  | 0 => x 0
  | n + 1 => (s : EReal) * x n + ((1 - s : ℝ) : EReal) * ema s x n

/-- A nonnegative real factor goes over a finite sum of extended reals. -/
theorem coe_mul_sum {q : ℝ} (hq : 0 ≤ q) {ι : Type} (I : Finset ι) (f : ι → EReal) :
    (q : EReal) * ∑ i ∈ I, f i = ∑ i ∈ I, (q : EReal) * f i := by
  classical
  have h0 : (0 : EReal) ≤ (q : EReal) := by exact_mod_cast hq
  induction I using Finset.induction_on with
  | empty => simp
  | insert a I ha ih =>
    rw [Finset.sum_insert ha, Finset.sum_insert ha, EReal.left_distrib_of_nonneg_of_ne_top h0 (EReal.coe_ne_top q), ih]

/-- The average `j + 1` steps after step `a`, as one weighted sum of the values since then and of the average at `a`. -/
theorem ema_block {s : ℝ} (h1 : s < 1) (x : ℕ → EReal) (a j : ℕ) :
    ema s x (a + j + 1)
      = (∑ i ∈ Finset.range (j + 1), x (a + i) * ((s * (1 - s) ^ (j - i) : ℝ) : EReal))
        + ema s x a * (((1 - s) ^ (j + 1) : ℝ) : EReal) := by
  have hq : 0 ≤ 1 - s := by linarith
  have h0 : (0 : EReal) ≤ ((1 - s : ℝ) : EReal) := by exact_mod_cast hq
  induction j with
  | zero =>
    show (s : EReal) * x a + ((1 - s : ℝ) : EReal) * ema s x a = _
    simp [mul_comm]
  | succ j ih =>
    show (s : EReal) * x (a + j + 1) + ((1 - s : ℝ) : EReal) * ema s x (a + j + 1) = _
    rw [ih, EReal.left_distrib_of_nonneg_of_ne_top h0 (EReal.coe_ne_top _), coe_mul_sum hq, Finset.sum_range_succ _ (j + 1),
      ← add_assoc]
    congr 1
    · rw [add_comm]
      congr 1
      · refine Finset.sum_congr rfl fun i hi => ?_
        have hi' : i < j + 1 := Finset.mem_range.mp hi
        rw [mul_left_comm, ← EReal.coe_mul]
        congr 2
        rw [show j + 1 - i = (j - i) + 1 by omega, pow_succ]; ring
      · rw [Nat.sub_self, pow_zero, mul_one, mul_comm]; rfl
    · rw [mul_left_comm, ← EReal.coe_mul]
      congr 2
      rw [pow_succ _ (j + 1)]; ring

/-- The weight that value `i` of a block carries in the average after step `j` of the block. -/
def wt (s : ℝ) (i j : ℕ) : ℝ := if i ≤ j then s * (1 - s) ^ (j - i) else 0

/-- What the kernel's product computes at position `j` of a block of 256 that starts at `a`: the weighted sum of the block,
    the decayed start value with `ε` added, and the rest of `ε`. It is the average after that step, with `ε` added. -/
theorem block_value {s : ℝ} (h0 : 0 < s) (h1 : s < 1) (x : ℕ → EReal) (a j : ℕ) (hj : j < 256) :
    (∑ i : Fin 256, x (a + i.val) * ((wt s i.val j : ℝ) : EReal))
        + ((ema s x a + (epsR : EReal)) * (((1 - s) ^ (j + 1) : ℝ) : EReal)
          + ((epsR * (1 - (1 - s) ^ (j + 1)) : ℝ) : EReal))
      = ema s x (a + j + 1) + (epsR : EReal) := by
  have hq : 0 ≤ (1 - s) ^ (j + 1) := pow_nonneg (by linarith) _
  have hq' : (0 : EReal) ≤ (((1 - s) ^ (j + 1) : ℝ) : EReal) := by exact_mod_cast hq
  rw [EReal.right_distrib_of_nonneg_of_ne_top hq' (EReal.coe_ne_top _), add_assoc (ema s x a * _), ← EReal.coe_mul,
    ← EReal.coe_add, ema_block h1, add_assoc (Finset.sum _ _)]
  congr 1
  · rw [Fin.sum_univ_eq_sum_range (fun i => x (a + i) * ((wt s i j : ℝ) : EReal)) 256]
    rw [← Finset.sum_subset (Finset.range_subset_range.mpr (show j + 1 ≤ 256 by omega))]
    · refine Finset.sum_congr rfl fun i hi => ?_
      have hi' : i < j + 1 := Finset.mem_range.mp hi
      unfold wt; rw [if_pos (by omega)]
    · intro i _ hi
      have hi' : ¬ i < j + 1 := fun h => hi (Finset.mem_range.mpr h)
      unfold wt; rw [if_neg (by omega), EReal.coe_zero, mul_zero]
  · congr 2; ring

/-! ## One element of the result -/

/-- The reference's element: gain control by a power of the smoothed energy `m`, then root compression. -/
def refElem (x m a d r : EReal) : EReal :=
  Ideal.pow (x * Ideal.exp (-Ideal.exp a * (Ideal.log (epsR : EReal) + Ideal.log1p (Ideal.div m (epsR : EReal))))
      + Ideal.exp d) (Ideal.exp r) - Ideal.pow (Ideal.exp d) (Ideal.exp r)

/-- The kernel's element: the same in powers of two, from the energy with `ε` already added. -/
def kerElem (x me a d r : EReal) : EReal :=
  Ideal.exp2 (Ideal.exp r * (((Real.log 2)⁻¹ : ℝ) : EReal)
      * Ideal.log (x * Ideal.exp2 (-Ideal.exp a * (((Real.log 2)⁻¹ : ℝ) : EReal) * Ideal.log me) + Ideal.exp d))
    - Ideal.pow (Ideal.exp d) (Ideal.exp r)

/-- For `x ≥ 0` the two elements agree. -/
theorem kerElem_eq {x : EReal} (hx : 0 ≤ x) (m a d r : EReal) : kerElem x (m + (epsR : EReal)) a d r = refElem x m a d r := by
  unfold kerElem refElem
  rw [exp2_scaled_mul, exp2_scaled_mul, log_split, exp_mul_log _ (exp_nonneg r)]
  exact add_nonneg (EReal.mul_nonneg hx (exp_nonneg _)) (exp_nonneg d)

end Pcen

end
-- ==== Proof.RefRun.lean ====
/- The reference's loop: what one trip makes of the carried average and of the rows written so far, and the run with its
   result as a function of the rows after the last trip. -/
module

public import proofs.«01_k».proof.Proof.Gen.ReferenceIdeal.Run
public import proofs.«01_k».proof.Proof.Gen.ReferenceIdeal.Step
public import proofs.«01_k».proof.Proof.Math

@[expose] public section

set_option maxRecDepth 16384

noncomputable section

namespace Pcen

open Idealize.ShloMosaic Idealize.ShloMosaic.TcCoe Idealize.SL.Sem Idealize.ShloMosaic.StableHlo
open Cert.ReferenceIdeal Cert.ReferenceIdeal.Gen Cert.ReferenceIdeal.Value

/-- The loop's buffers hold the state `s` and trip number `n`. -/
structure InState (V : Valuation τ sig (Elt Ideal)) (s : Step.State Ideal) (n : ℕ) : Prop where
  series : V (Proc.devRef .tc main_v22_0) = s.main_v22_0
  coefs : V (Proc.devRef .tc main_v22_1) = Step.K_main_v16 (F := Ideal)
  trip : V (Proc.devRef .tc main_v22_2) = constantI S_ 32 (BitVec.ofNat 32 n)
  avg : V (Proc.devRef .tc main_v22_3) = s.main_v22_3
  rows : V (Proc.devRef .tc main_v22_4) = s.main_v22_4

variable {V : Valuation τ sig (Elt Ideal)} {s : Step.State Ideal} {n : ℕ}

/-- The new average, before it is stored. -/
theorem newAvg (h : InState V s n) : res_main_while0b_v67 V = Step.b15 n s := by
  unfold res_main_while0b_v67
  rw [h.series, h.coefs, h.trip, h.avg]
  rfl

/-- A trip's average is the step's. -/
theorem trip_avg (h : InState V s n) : step_main_v22_3 V = Step.b15 n s := newAvg h

/-- A trip's rows are the step's. -/
theorem trip_rows (h : InState V s n) : step_main_v22_4 V = Step.b20 n s := by
  unfold step_main_v22_4
  rw [h.rows, h.trip, newAvg h]
  rfl

/-- A trip counts up. -/
theorem trip_count (h : InState V s n) : step_main_v22_2 V = constantI S_ 32 (BitVec.ofNat 32 (n + 1)) := by
  unfold step_main_v22_2
  rw [h.trip]
  funext i
  show BitVec.ofNat 32 n + 1#32 = BitVec.ofNat 32 (n + 1)
  rw [BitVec.ofNat_add]

/-- One trip steps the state. -/
theorem InState.next (h : InState V s n) : InState (STEP V) (Step.step n s) (n + 1) :=
  ⟨(STEP_main_v22_0 V).trans h.series, (STEP_main_v22_1 V).trans h.coefs, (STEP_main_v22_2 V).trans (trip_count h),
    (STEP_main_v22_3 V).trans (trip_avg h), (STEP_main_v22_4 V).trans (trip_rows h)⟩

variable (m : (ℓ : Loc nD τ sig) → Buf (Elt Ideal) ℓ) (c : Dev nD)

/-- The state before trip `n`: the steps from the initial state of the first argument. -/
def refState (X : Vec Ideal S8x128x8192 .f32) : ℕ → Step.State Ideal
  | 0 => Step.init X
  | n + 1 => Step.step n (refState X n)

set_option maxRecDepth 65536 in
/-- Before the first trip the buffers hold the initial state. -/
theorem inState_entry : InState (entryContents preI m c) (Step.init (m ((c.tc : Thread nD τ).loc main_arg0))) 0 := by
  constructor <;> simp only [entryContents, afterL_cons, afterL_nil] <;> after_reads_simp <;> rfl

/-- Before trip `n` they hold state number `n`. -/
theorem inState_iter (n : ℕ) :
    InState (STEP^[n] (entryContents preI m c)) (refState (m ((c.tc : Thread nD τ).loc main_arg0)) n) n := by
  induction n with
  | zero => exact inState_entry m c
  | succ n ih => rw [Function.iterate_succ_apply']; exact ih.next

/-- The result buffer after the loop, of the last state and the arguments. -/
theorem result_eq : out_main_v55 (STEP^[8192] (entryContents preI m c))
    = Step.R_main_v55 (refState (m ((c.tc : Thread nD τ).loc main_arg0)) 8192) (m ((c.tc : Thread nD τ).loc main_arg0))
        (m ((c.tc : Thread nD τ).loc main_arg1)) (m ((c.tc : Thread nD τ).loc main_arg2))
        (m ((c.tc : Thread nD τ).loc main_arg3)) := by
  unfold out_main_v55 Step.R_main_v55
  rw [(inState_iter m c 8192).rows, iter_main_arg0 m c 8192, iter_main_arg1 m c 8192, iter_main_arg2 m c 8192,
    iter_main_arg3 m c 8192]

end Pcen

end
-- ==== Proof.RefValue.lean ====
/- The reference's result at an index: the carried average is the moving average of the input series, row `k` of the loop's
   output is the average after step `k`, and the result applies gain control and root compression to it. -/
module

public import proofs.«01_k».proof.Proof.RefRun
public import Idealize.ShloMosaic.Lib.WordCmp
public import Idealize.ShloMosaic.Lib.DynamicIndex

@[expose] public section

set_option maxRecDepth 16384

noncomputable section

namespace Pcen

open Idealize.ShloMosaic Idealize.ShloMosaic.TcCoe Idealize.SL.Sem
open Cert.ReferenceIdeal Cert.ReferenceIdeal.Gen

/-- The series of batch `b`, feature `f`: the input along time, continued by zero. -/
def ser (X : Vec Ideal S8x128x8192 .f32) (b : Fin 8) (f : Fin 128) (k : ℕ) : EReal :=
  if h : k < 8192 then X (ix3 b f ⟨k, h⟩) else 0

/-- The table of the four time constants, read at `t`. -/
theorem word_tau (t : Fin 4) :
    (if _h : t.val < 1 then Ideal.ofBits .f32 1073741824#32
      else if _h : t.val - 1 < 1 then Ideal.ofBits .f32 1090519040#32
      else if _h : t.val - 1 - 1 < 1 then Ideal.ofBits .f32 1107296256#32
      else Ideal.ofBits .f32 1124073472#32) = ((tau t.val : ℝ) : EReal) := by
  fin_vals t with ht
  all_goals simp only [ht, Nat.reduceSub, Nat.reduceLT, ↓reduceDIte, word_two, word_eight, word_thirtytwo, word_onetwentyeight]
  all_goals norm_num [tau]

/-- The reference's smoothing coefficients. -/
theorem refCoef (t : Fin 4) : Step.K_main_v16 (F := Ideal) (ix1 t) = ((sR t.val : ℝ) : EReal) := by
  pointwise [Step.K_main_v16, Step.K_main_v15, Step.K_main_v14, Step.K_main_v13, Step.K_main_v12, Step.K_main_v11, Step.K_main_v10,
    Step.K_main_v9, Step.K_main_v8, Step.K_main_v7, Step.K_main_v6, Step.K_main_v5, Step.K_main_v4, Step.K_main_v3, Step.K_main_v2,
    Step.K_main_v1, Step.K_main_v0, Step.K_main_cst, Step.K_main_cst_0, Step.K_main_cst_1, Step.K_main_cst_2, Step.K_main_cst_3,
    Step.K_main_cst_4, Step.K_main_cst_5, Step.K_main_cst_6]
  rw [word_tau t, word_four, word_two, ← EReal.coe_one, ← EReal.coe_mul, ← EReal.coe_mul, ← EReal.coe_mul]
  exact coef_ideal (tau_pos _) rfl rfl

/-- The time-major copy of the input. -/
theorem refSeries (X : Vec Ideal S8x128x8192 .f32) (n : ℕ) (k : Fin 8192) (b : Fin 8) (f : Fin 128) :
    (refState X n).main_v22_0 (ix3 k b f) = X (ix3 b f k) := by
  induction n with
  | zero => show Step.A_main_v17 X (ix3 k b f) = _; pointwise [Step.A_main_v17]
  | succ n ih => exact ih

/-- The slice that a trip takes. -/
theorem refSlice (s : Step.State Ideal) (n : ℕ) (h : n < 8192) (b : Fin 8) (f : Fin 128) :
    Step.b2 n s (ix3 0 b f) = s.main_v22_0 (ix3 ⟨n, h⟩ b f) := by
  unfold Step.b2 Step.b0 Step.b1
  rw [WordCmp.dynamicSlice_eq_extract _ _ _ _ ![n, 0, 0] (by refine ⟨rfl, ?_⟩; intro a; fin_cases a <;> simp <;> omega)]
  · pointwise
  · intro a
    fin_cases a
    · exact toInt_ofNat_of_lt (by omega)
    · rfl
    · rfl

/-- The carried average before trip `n` is the moving average after `n` steps. -/
theorem refAvg (X : Vec Ideal S8x128x8192 .f32) (n : ℕ) (hn : n ≤ 8192) (t : Fin 4) (b : Fin 8) (f : Fin 128) :
    (refState X n).main_v22_3 (ix3 t b f) = ema (sR t.val) (ser X b f) n := by
  induction n with
  | zero =>
    show Step.A_main_v20 X (ix3 t b f) = ser X b f 0
    pointwise [Step.A_main_v20, Step.A_main_v19, Step.A_main_v18, Step.A_main_v17]
    rfl
  | succ n ih =>
    show Step.b15 n (refState X n) (ix3 t b f) = _
    pointwise [Step.b15, Step.b14, Step.b13, Step.b12, Step.b11, Step.b10, Step.b9, Step.b8, Step.b7, Step.b6, Step.b5, Step.b4,
      Step.b3]
    rw [refCoef, refSlice _ n (by omega), refSeries, ih (by omega), ← EReal.coe_one, ← EReal.coe_sub]
    show _ = _ * ser X b f n + _
    rw [ser, dif_pos (show n < 8192 by omega)]

/-- Row `k` of the loop's output, once trip `k` is past, is the average after step `k`. -/
theorem refRows (X : Vec Ideal S8x128x8192 .f32) (n : ℕ) (hn : n ≤ 8192) (k : Fin 8192) (hk : k.val < n) (t : Fin 4) (b : Fin 8)
    (f : Fin 128) : (refState X n).main_v22_4 (ix4 k t b f) = ema (sR t.val) (ser X b f) (k.val + 1) := by
  induction n with
  | zero => omega
  | succ n ih =>
    have hb : (refState X (n + 1)).main_v22_3 (ix3 t b f) = _ := refAvg X (n + 1) hn t b f
    show Step.b20 n (refState X n) (ix4 k t b f) = _
    unfold Step.b20 Step.b17 Step.b18 Step.b19
    rw [WordCmp.dynamicUpdateSlice_eq_update _ _ _ _ ![n, 0, 0, 0] (by refine ⟨rfl, ?_⟩; intro a; fin_cases a <;> simp <;> omega)]
    · pointwise [Step.b16]
      by_cases hkn : k.val < n
      · rw [dif_neg (by omega)]; exact ih (by omega) hkn
      · have e : k.val = n := by omega
        rw [dif_pos (by omega), e]; exact hb
    · intro a
      fin_cases a
      · exact toInt_ofNat_of_lt (by omega)
      · rfl
      · rfl
      · rfl

/-- The result at an index, of the last state's rows. -/
theorem refResult (s : Step.State Ideal) (X : Vec Ideal S8x128x8192 .f32) (a d r : Vec Ideal S128 .f32) (b : Fin 8) (t : Fin 4)
    (f : Fin 128) (k : Fin 8192) :
    Step.R_main_v55 s X a d r (ix4 b t f k)
      = refElem (X (ix3 b f k)) (s.main_v22_4 (ix4 k t b f)) (a (ix1 f)) (d (ix1 f)) (r (ix1 f)) := by
  unfold Step.R_main_v55 refElem
  pointwise [id_eq]
  rw [word_eps]

end Pcen

end
-- ==== Proof.HostValue.lean ====
/- What the kernel's two tables hold when its grid starts: the parameters, spread over rows and columns, and the matrix of
   weights. -/
module

public import proofs.«01_k».proof.Proof.Gen.KernelIdeal.Frame.Runs
public import proofs.«01_k».proof.Proof.RefValue

@[expose] public section

set_option maxRecDepth 16384

noncomputable section

namespace Pcen

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- The input. -/
abbrev inX : Vec Ideal S8x128x8192 .f32 := m ((c.tc : Thread nD τ).loc main_arg0)

/-- The logarithms of `α`, one per feature. -/
abbrev inA : Vec Ideal S128 .f32 := m ((c.tc : Thread nD τ).loc main_arg1)

/-- The logarithms of `δ`. -/
abbrev inD : Vec Ideal S128 .f32 := m ((c.tc : Thread nD τ).loc main_arg2)

/-- The logarithms of `r`. -/
abbrev inR : Vec Ideal S128 .f32 := m ((c.tc : Thread nD τ).loc main_arg3)

/-- The parameter table as the grid finds it. -/
abbrev tabP : Vec Ideal S4x1024x256 .f32 := V m c main_v12

/-- The weight table as the grid finds it. -/
abbrev tabU : Vec Ideal S512x1024 .f32 := V m c main_v61

/-- The feature of a row of the flattened batch and feature axes. -/
def feat (p : Fin 1024) : Fin 128 := ⟨p.val % 128, by omega⟩

/-- The batch of such a row. -/
def batch (p : Fin 1024) : Fin 8 := ⟨p.val / 128, by omega⟩

/-- The parameter table: `-α`, `δ`, `r` and `δ ^ r` of the row's feature. -/
theorem host_params (k : Fin 4) (p : Fin 1024) (j : Fin 256) :
    tabP m c (ix3 k p j)
      = if k.val < 1 then -Ideal.exp (inA m c (ix1 (feat p)))
        else if k.val - 1 < 1 then Ideal.exp (inD m c (ix1 (feat p)))
        else if k.val - 1 - 1 < 1 then Ideal.exp (inR m c (ix1 (feat p)))
        else Ideal.pow (Ideal.exp (inD m c (ix1 (feat p)))) (Ideal.exp (inR m c (ix1 (feat p)))) := by
  show (StableHlo.after hostOps0 (fun b => m (c, b)) main_v12 : Vec Ideal S4x1024x256 .f32) (ix3 k p j) = _
  after_reads_simp
  pointwise
  after_reads_simp
  pointwise
  rfl

/-- The weight that row `i` of the table gives to time constant `t` at position `j` of a block. -/
def weight (i t j : ℕ) : ℝ :=
  if i ≤ j then sR t * (1 - sR t) ^ (j - i)
  else if i = t + 256 then (1 - sR t) ^ (j + 1)
  else if i = 260 then epsR * (1 - (1 - sR t) ^ (j + 1))
  else 0

/-- A difference of two index words, read as a number. -/
theorem word_sub {i j : ℕ} (hij : i ≤ j) (hj : j < 512) :
    (FloatOps.sitofp .f32 (IntOp.subi (BitVec.ofNat 32 j) (BitVec.ofNat 32 i)) : Ideal .f32) = (((j - i : ℕ) : ℝ) : EReal) := by
  show ((((BitVec.ofNat 32 j - BitVec.ofNat 32 i).toInt : ℤ) : ℝ) : EReal) = _
  rw [show BitVec.ofNat 32 j - BitVec.ofNat 32 i = BitVec.ofNat 32 (j - i) by
    apply BitVec.eq_of_toNat_eq
    simp only [BitVec.toNat_sub, BitVec.toNat_ofNat]
    omega]
  rw [Idealize.ShloMosaic.toInt_ofNat_of_lt (by omega)]
  norm_num

/-- An index word and one, read as a number. -/
theorem word_succ {j : ℕ} (hj : j < 512) :
    (FloatOps.sitofp .f32 (IntOp.addi (BitVec.ofNat 32 j) 1#32) : Ideal .f32) = (((j + 1 : ℕ) : ℝ) : EReal) := by
  show ((((BitVec.ofNat 32 j + BitVec.ofNat 32 1).toInt : ℤ) : ℝ) : EReal) = _
  rw [← BitVec.ofNat_add, Idealize.ShloMosaic.toInt_ofNat_of_lt (by omega)]
  norm_num

/-- The weight table. -/
theorem host_table (i : Fin 512) (t : Fin 4) (j : Fin 256) :
    tabU m c (ix2 i ⟨t.val * 256 + j.val, by omega⟩) = ((weight i.val t.val j.val : ℝ) : EReal) := by
  show (StableHlo.after hostOps0 (fun b => m (c, b)) main_v61 : Vec Ideal S512x1024 .f32) (ix2 i ⟨t.val * 256 + j.val, by omega⟩) = _
  after_reads_simp
  pointwise
  after_reads_simp
  pointwise
  have hs : Ideal.div (Ideal.sqrt (1 + ((4 : ℝ) : EReal) * ((tau t.val : ℝ) : EReal) * ((tau t.val : ℝ) : EReal)) - 1)
      (((2 : ℝ) : EReal) * ((tau t.val : ℝ) : EReal) * ((tau t.val : ℝ) : EReal)) = ((sR t.val : ℝ) : EReal) := by
    rw [← EReal.coe_one, ← EReal.coe_mul, ← EReal.coe_mul, ← EReal.coe_mul, ← EReal.coe_mul]
    exact coef_ideal (tau_pos _) (mul_assoc _ _ _) (mul_assoc _ _ _)
  rw [word_tau t, word_four, word_two, word_eps, hs, word_succ (by omega), exp_log1p_mul (sR_lt_one _)]
  have hadd : IntOp.addi (BitVec.ofNat 32 t.val) 256#32 = BitVec.ofNat 32 (t.val + 256) := (BitVec.ofNat_add _ _).symm
  rw [hadd, WordCmp.cmpi_sge_ofNat (by omega) (by omega), WordCmp.cmpi_eq_ofNat (by omega) (by omega),
    WordCmp.cmpi_eq_ofNat (a := i.val) (b := 260) (by omega) (by norm_num), WordCmp.select_decide, WordCmp.select_decide,
    WordCmp.select_decide, weight]
  split_ifs with h1 h2 h3
  · rw [word_sub h1 (by omega), exp_log1p_mul (sR_lt_one _), EReal.coe_mul]
  · rfl
  · rw [← EReal.coe_one, ← EReal.coe_sub, ← EReal.coe_mul]
  · rfl

end Pcen

end
-- ==== Proof.Payload.lean ====
/- One grid step of the kernel as formulas: the moving averages it multiplies out, the carry it starts and leaves, and the
   four blocks it stores. -/
module

public import proofs.«01_k».proof.Proof.Gen.KernelIdeal.Frame
public import proofs.«01_k».proof.Proof.HostValue
public import Idealize.ShloMosaic.Lib.Pointwise
public import Idealize.ShloMosaic.Lib.Pipeline.ValueKit

@[expose] public section

set_option maxRecDepth 16384

noncomputable section

namespace Pcen

open Idealize.ShloMosaic Idealize.ShloMosaic.TcCoe Idealize.SL.Sem
open Cert.KernelIdeal Cert.KernelIdeal.Gen

variable (x : Vec Ideal S8x128x256 .f32) (C : Vec Ideal S1024x256 .f32) (u : Vec Ideal S512x1024 .f32)
  (P : Vec Ideal S4x1024x256 .f32)

/-- A row of the input block and of the carry, side by side, times a column of the weight table. -/
def mix (p : Fin 1024) (q : Fin 1024) : EReal :=
  (∑ k : Fin 256, x (ix3 (batch p) (feat p) k) * u (ix2 ⟨k.val, by omega⟩ q))
    + ∑ l : Fin 256, C (ix2 p l) * u (ix2 ⟨256 + l.val, by omega⟩ q)

/-- The columns of the weight table that belong to time constant 0. -/
abbrev u0 : Vec Ideal S512x256 .f32 := View.ld u (Rect.unit ![0, 0] ![512, 256] inb_S512x1024_S512x256_0_0)

/-- The columns that belong to time constant 1. -/
abbrev u1 : Vec Ideal S512x256 .f32 := View.ld u (Rect.unit ![0, 256] ![512, 256] inb_S512x1024_S512x256_0_256)

/-- The columns that belong to time constant 2. -/
abbrev u2 : Vec Ideal S512x256 .f32 := View.ld u (Rect.unit ![0, 512] ![512, 256] inb_S512x1024_S512x256_0_512)

/-- The columns that belong to time constant 3. -/
abbrev u3 : Vec Ideal S512x256 .f32 := View.ld u (Rect.unit ![0, 768] ![512, 256] inb_S512x1024_S512x256_0_768)

/-- The table's plane of `-α`. -/
abbrev P0 : Vec Ideal S1x1024x256 .f32 := View.ld P (Rect.unit ![0, 0, 0] ![1, 1024, 256] inb_S4x1024x256_S1x1024x256_0_0_0)

/-- The table's plane of `δ`. -/
abbrev P1 : Vec Ideal S1x1024x256 .f32 := View.ld P (Rect.unit ![1, 0, 0] ![1, 1024, 256] inb_S4x1024x256_S1x1024x256_1_0_0)

/-- The table's plane of `r`. -/
abbrev P2 : Vec Ideal S1x1024x256 .f32 := View.ld P (Rect.unit ![2, 0, 0] ![1, 1024, 256] inb_S4x1024x256_S1x1024x256_2_0_0)

/-- The table's plane of `δ ^ r`. -/
abbrev P3 : Vec Ideal S1x1024x256 .f32 := View.ld P (Rect.unit ![3, 0, 0] ![1, 1024, 256] inb_S4x1024x256_S1x1024x256_3_0_0)

/-- The product for time constant 0. -/
theorem mix0 (p : Fin 1024) (j : Fin 256) : k0_pay10 x C (u0 u) (ix2 p j) = mix x C u p ⟨j.val, by omega⟩ := by
  pointwise [u0, k0_pay10, k0_pay5, k0_pay3]
  rfl

/-- The product for time constant 1. -/
theorem mix1 (p : Fin 1024) (j : Fin 256) : k0_pay11 x C (u1 u) (ix2 p j) = mix x C u p ⟨256 + j.val, by omega⟩ := by
  pointwise [u1, k0_pay11, k0_pay5, k0_pay3]
  rfl

/-- The product for time constant 2. -/
theorem mix2 (p : Fin 1024) (j : Fin 256) :
    k0_pay14 (k0_pay5 x C) (u2 u) (ix2 p j) = mix x C u p ⟨512 + j.val, by omega⟩ := by
  pointwise [u2, k0_pay14, k0_pay5, k0_pay3]
  rfl

/-- The product for time constant 3. -/
theorem mix3 (p : Fin 1024) (j : Fin 256) :
    k0_pay16 (k0_pay5 x C) (u3 u) (ix2 p j) = mix x C u p ⟨768 + j.val, by omega⟩ := by
  pointwise [u3, k0_pay16, k0_pay5, k0_pay3]
  rfl

/-- `1 / ln 2` under its name. -/
theorem named_inv_ln2 :
    (Named.named κ "inv_ln2" 0x3FB8AA3B#32 : Ideal .f32) = (((Real.log 2)⁻¹ : ℝ) : EReal) :=
  IdealRules.named_const.ideal_named_scalar _ _ _ _ rfl

/-! ## What a step starts from -/

/-- The moving average of row `p`'s series with time constant `t`, before position `n` is taken in. -/
def avg (X : Vec Ideal S8x128x8192 .f32) (t : ℕ) (p : Fin 1024) (n : ℕ) : EReal :=
  ema (sR t) (ser X (batch p) (feat p)) n

/-- The block holds positions `256 n` up to `256 (n + 1)` of the input. -/
def HoldsX (X : Vec Ideal S8x128x8192 .f32) (n : ℕ) : Prop :=
  ∀ (b : Fin 8) (f : Fin 128) (j : Fin 256), x (ix3 b f j) = ser X b f (256 * n + j.val)

/-- The table holds the weights. -/
def HoldsU : Prop :=
  ∀ (i : Fin 512) (t : Fin 4) (j : Fin 256), u (ix2 i ⟨t.val * 256 + j.val, by omega⟩) = ((weight i.val t.val j.val : ℝ) : EReal)

/-- The carry at position `a`: lanes 0 to 3 the averages with `ε` added, lane 4 one, the others zero. -/
def Carries (X : Vec Ideal S8x128x8192 .f32) (a : ℕ) : Prop :=
  ∀ (p : Fin 1024) (l : Fin 256),
    C (ix2 p l) = if l.val < 4 then avg X l.val p a + (epsR : EReal) else if l.val = 4 then 1 else 0

variable {x C u P} {X : Vec Ideal S8x128x8192 .f32} {n : ℕ}

/-- The carry's part of the product: two lanes carry weight. -/
theorem carry_sum (hC : Carries C X (256 * n)) (p : Fin 1024) (t : Fin 4) (j : Fin 256) :
    (∑ l : Fin 256, C (ix2 p l) * ((weight (256 + l.val) t.val j.val : ℝ) : EReal))
      = (avg X t.val p (256 * n) + (epsR : EReal)) * (((1 - sR t.val) ^ (j.val + 1) : ℝ) : EReal)
        + ((epsR * (1 - (1 - sR t.val) ^ (j.val + 1)) : ℝ) : EReal) := by
  have hj := j.isLt
  have ht := t.isLt
  rw [Finset.sum_eq_add (⟨t.val, by omega⟩ : Fin 256) (⟨4, by omega⟩ : Fin 256)]
  · rw [hC, hC]
    have w1 : weight (256 + t.val) t.val j.val = (1 - sR t.val) ^ (j.val + 1) := by
      unfold weight
      rw [if_neg (by omega), if_pos (by omega)]
    have w2 : weight (256 + 4) t.val j.val = epsR * (1 - (1 - sR t.val) ^ (j.val + 1)) := by
      unfold weight
      rw [if_neg (by omega), if_neg (by omega), if_pos (by omega)]
    simp only [w1, w2, ht, if_true, if_false, lt_irrefl, one_mul]
  · intro h
    have := congrArg Fin.val h
    simp only at this
    omega
  · intro l _ hl
    have h1 : l.val ≠ t.val := fun h => hl.1 (Fin.ext h)
    have h2 : l.val ≠ 4 := fun h => hl.2 (Fin.ext h)
    have w : weight (256 + l.val) t.val j.val = 0 := by
      unfold weight
      rw [if_neg (by omega), if_neg (by omega), if_neg (by omega)]
    rw [w, EReal.coe_zero, mul_zero]
  · intro h; exact absurd (Finset.mem_univ _) h
  · intro h; exact absurd (Finset.mem_univ _) h

/-- The product is the moving average through position `256 n + j`, with `ε` added. -/
theorem mix_eq (hx : HoldsX x X n) (hu : HoldsU u) (hC : Carries C X (256 * n)) (p : Fin 1024) (t : Fin 4) (j : Fin 256) :
    mix x C u p ⟨t.val * 256 + j.val, by omega⟩ = avg X t.val p (256 * n + j.val + 1) + (epsR : EReal) := by
  unfold mix
  simp only [hu _ t j, hx _ _ _]
  rw [carry_sum hC p t j]
  refine Eq.trans ?_ (block_value (sR_pos t.val) (sR_lt_one t.val) (ser X (batch p) (feat p)) (256 * n) j.val j.isLt)
  refine congrArg (· + _) (Finset.sum_congr rfl fun i _ => ?_)
  refine congrArg (fun w : ℝ => ser X (batch p) (feat p) (256 * n + i.val) * (w : EReal)) ?_
  have := i.isLt
  unfold weight wt
  by_cases h : i.val ≤ j.val
  · rw [if_pos h, if_pos h]
  · rw [if_neg h, if_neg h, if_neg (by omega), if_neg (by omega)]

/-- The product for time constant 0 is that average. -/
theorem me0 (hx : HoldsX x X n) (hu : HoldsU u) (hC : Carries C X (256 * n)) (p : Fin 1024) (j : Fin 256) :
    k0_pay10 x C (u0 u) (ix2 p j) = avg X 0 p (256 * n + j.val + 1) + (epsR : EReal) := by
  rw [mix0]
  exact (congrArg (mix x C u p) (Fin.ext (by simp))).trans (mix_eq hx hu hC p 0 j)

/-- The product for time constant 1 is that average. -/
theorem me1 (hx : HoldsX x X n) (hu : HoldsU u) (hC : Carries C X (256 * n)) (p : Fin 1024) (j : Fin 256) :
    k0_pay11 x C (u1 u) (ix2 p j) = avg X 1 p (256 * n + j.val + 1) + (epsR : EReal) := by
  rw [mix1]
  exact (congrArg (mix x C u p) (Fin.ext (by simp))).trans (mix_eq hx hu hC p 1 j)

/-- The product for time constant 2 is that average. -/
theorem me2 (hx : HoldsX x X n) (hu : HoldsU u) (hC : Carries C X (256 * n)) (p : Fin 1024) (j : Fin 256) :
    k0_pay14 (k0_pay5 x C) (u2 u) (ix2 p j) = avg X 2 p (256 * n + j.val + 1) + (epsR : EReal) := by
  rw [mix2]
  exact (congrArg (mix x C u p) (Fin.ext (by simp))).trans (mix_eq hx hu hC p 2 j)

/-- The product for time constant 3 is that average. -/
theorem me3 (hx : HoldsX x X n) (hu : HoldsU u) (hC : Carries C X (256 * n)) (p : Fin 1024) (j : Fin 256) :
    k0_pay16 (k0_pay5 x C) (u3 u) (ix2 p j) = avg X 3 p (256 * n + j.val + 1) + (epsR : EReal) := by
  rw [mix3]
  exact (congrArg (mix x C u p) (Fin.ext (by simp))).trans (mix_eq hx hu hC p 3 j)

/-! ## The carry -/

/-- The carry the first step starts. -/
theorem carry_start (hx : HoldsX x X 0) : Carries (k0_pay4 x) X (256 * 0) := by
  intro p l
  pointwise [k0_pay4, k0_pay3]
  rw [WordCmp.cmpi_slt_ofNat (by omega) (by omega), WordCmp.cmpi_eq_ofNat (by omega) (by omega), WordCmp.select_decide,
    WordCmp.select_decide, word_eps]
  by_cases h : l.val < 4
  · rw [if_pos h, if_pos h]
    exact congrArg (· + (epsR : EReal)) (hx (batch p) (feat p) 0)
  · rw [if_neg h, if_neg h]

/-- The four columns a step leaves in the carry. -/
theorem carry_left (hx : HoldsX x X n) (hu : HoldsU u) (hC : Carries C X (256 * n)) (p : Fin 1024) (l : Fin 4) :
    k0_pay2 (F := Ideal) (k0_pay10 x C (u0 u)) (k0_pay11 x C (u1 u)) (k0_pay14 (k0_pay5 x C) (u2 u)) (k0_pay16 (k0_pay5 x C) (u3 u))
        (ix2 p l)
      = avg X l.val p (256 * (n + 1)) + (epsR : EReal) := by
  have h0 := me0 hx hu hC p 255
  have h1 := me1 hx hu hC p 255
  have h2 := me2 hx hu hC p 255
  have h3 := me3 hx hu hC p 255
  generalize k0_pay10 x C (u0 u) = a0 at *
  generalize k0_pay11 x C (u1 u) = a1 at *
  generalize k0_pay14 (k0_pay5 x C) (u2 u) = a2 at *
  generalize k0_pay16 (k0_pay5 x C) (u3 u) = a3 at *
  pointwise [k0_pay2]
  match l with
  | 0 => exact h0
  | 1 => exact h1
  | 2 => exact h2
  | 3 => exact h3

/-! ## The stored blocks -/

/-- The table holds the parameters of the features. -/
def HoldsP (P : Vec Ideal S4x1024x256 .f32) (A D R : Vec Ideal S128 .f32) : Prop :=
  ∀ (k : Fin 4) (p : Fin 1024) (j : Fin 256), P (ix3 k p j)
    = if k.val < 1 then -Ideal.exp (A (ix1 (feat p)))
      else if k.val - 1 < 1 then Ideal.exp (D (ix1 (feat p)))
      else if k.val - 1 - 1 < 1 then Ideal.exp (R (ix1 (feat p)))
      else Ideal.pow (Ideal.exp (D (ix1 (feat p)))) (Ideal.exp (R (ix1 (feat p))))

/-- The row of a batch and a feature. -/
def row (b : Fin 8) (f : Fin 128) : Fin 1024 := ⟨b.val * 128 + f.val, by omega⟩

/-- Its feature. -/
theorem feat_row (b : Fin 8) (f : Fin 128) : feat (row b f) = f := Fin.ext (by simp only [feat, row]; omega)

/-- Its batch. -/
theorem batch_row (b : Fin 8) (f : Fin 128) : batch (row b f) = b := Fin.ext (by simp only [batch, row]; omega)

/-- The average of the row of a batch and a feature. -/
theorem avg_row (X : Vec Ideal S8x128x8192 .f32) (t : ℕ) (b : Fin 8) (f : Fin 128) (n : ℕ) :
    avg X t (row b f) n = ema (sR t) (ser X b f) n := by
  rw [avg, batch_row, feat_row]

/-- A stored block: the element at every position from the block's input and the average. -/
theorem stored {A D R : Vec Ideal S128 .f32} (hP : HoldsP P A D R) (M : FVec Ideal S1024x256 .f32) (b : Fin 8) (f : Fin 128)
    (j : Fin 256) :
    k0_pay1 (k0_pay3 x) (k0_pay6 (P0 P)) (k0_pay7 (P1 P)) (k0_pay8 (P2 P)) (k0_pay9 (P3 P)) M (ix4 b (0 : Fin 1) f j)
      = kerElem (x (ix3 b f j)) (M (ix2 (row b f) j)) (A (ix1 f)) (D (ix1 f)) (R (ix1 f)) := by
  pointwise [k0_pay1, k0_pay3, k0_pay6, k0_pay7, k0_pay8, k0_pay9, P0, P1, P2, P3]
  have h0 := hP 0 (row b f) j
  have h1 := hP 1 (row b f) j
  have h2 := hP 2 (row b f) j
  have h3 := hP 3 (row b f) j
  rw [feat_row] at h0 h1 h2 h3
  unfold row at h0 h1 h2 h3
  rw [h0, h1, h2, h3, named_inv_ln2]
  rfl

/-- The same at an index of the output block: piece `t` holds the elements of time constant `t`. -/
theorem stored_at {A D R : Vec Ideal S128 .f32} (hx : HoldsX x X n) (hP : HoldsP P A D R) (t : ℕ) (M : FVec Ideal S1024x256 .f32)
    (hM : ∀ (p : Fin 1024) (j : Fin 256), M (ix2 p j) = avg X t p (256 * n + j.val + 1) + (epsR : EReal))
    (y : S8x4x128x256.Idx) (z : S8x1x128x256.Idx) (h0 : (y 0).val = (z 0).val) (h1 : (y 1).val = t) (h2 : (y 2).val = (z 2).val)
    (h3 : (y 3).val = (z 3).val) :
    k0_pay1 (k0_pay3 x) (k0_pay6 (P0 P)) (k0_pay7 (P1 P)) (k0_pay8 (P2 P)) (k0_pay9 (P3 P)) M z
      = kerElem (ser X (y 0) (y 2) (256 * n + (y 3).val))
          (ema (sR (y 1).val) (ser X (y 0) (y 2)) (256 * n + (y 3).val + 1) + (epsR : EReal))
          (A (ix1 (y 2))) (D (ix1 (y 2))) (R (ix1 (y 2))) := by
  have hz : z = ix4 (y 0 : Fin 8) (0 : Fin 1) (y 2 : Fin 128) (y 3 : Fin 256) := by
    funext a
    refine Fin.ext ?_
    match a with
    | 0 => exact h0.symm
    | 1 => exact Nat.lt_one_iff.mp (z 1).isLt
    | 2 => exact h2.symm
    | 3 => exact h3.symm
  have hx' := hx (y 0) (y 2) (y 3)
  have hM' := (hM (row (y 0) (y 2)) (y 3)).trans (congrArg (· + (epsR : EReal)) (avg_row X t (y 0) (y 2) _))
  rw [hz, h1]
  refine (stored hP M (y 0) (y 2) (y 3)).trans ?_
  exact congrArg₂ (fun v w => kerElem v w (A (ix1 (y 2))) (D (ix1 (y 2))) (R (ix1 (y 2)))) hx' hM'

/-- The four stores of a step. -/
theorem stored_block {A D R : Vec Ideal S128 .f32} (hx : HoldsX x X n) (hu : HoldsU u) (hC : Carries C X (256 * n))
    (hP : HoldsP P A D R) (y : S8x4x128x256.Idx) :
    View.canon (Val := Elt Ideal) (s := S8x4x128x256) (e := .f32)
      [⟨Rect.unit ![0, 3, 0, 0] ![8, 1, 128, 256] inb_S8x4x128x256_S8x1x128x256_0_3_0_0,
          k0_pay1 (k0_pay3 x) (k0_pay6 (P0 P)) (k0_pay7 (P1 P)) (k0_pay8 (P2 P)) (k0_pay9 (P3 P)) (k0_pay16 (k0_pay5 x C) (u3 u))⟩,
        ⟨Rect.unit ![0, 2, 0, 0] ![8, 1, 128, 256] inb_S8x4x128x256_S8x1x128x256_0_2_0_0,
          k0_pay17 (k0_pay3 x) (k0_pay5 x C) (k0_pay6 (P0 P)) (k0_pay7 (P1 P)) (k0_pay8 (P2 P)) (k0_pay9 (P3 P)) (u2 u)⟩,
        ⟨Rect.unit ![0, 1, 0, 0] ![8, 1, 128, 256] inb_S8x4x128x256_S8x1x128x256_0_1_0_0,
          k0_pay15 (k0_pay3 x) (k0_pay6 (P0 P)) (k0_pay7 (P1 P)) (k0_pay8 (P2 P)) (k0_pay9 (P3 P)) (k0_pay11 x C (u1 u))⟩,
        ⟨Rect.unit ![0, 0, 0, 0] ![8, 1, 128, 256] inb_S8x4x128x256_S8x1x128x256_0_0_0_0,
          k0_pay13 (k0_pay8 (P2 P)) (k0_pay9 (P3 P)) (k0_pay12 x C (P0 P) (P1 P) (u0 u))⟩] y
      = kerElem (ser X (y 0) (y 2) (256 * n + (y 3).val))
          (ema (sR (y 1).val) (ser X (y 0) (y 2)) (256 * n + (y 3).val + 1) + (epsR : EReal))
          (A (ix1 (y 2))) (D (ix1 (y 2))) (R (ix1 (y 2))) := by
  canon_tiles z hz
  · exact stored_at hx hP 3 _ (me3 hx hu hC) y z hz0 (by omega) hz2 hz3
  · exact stored_at hx hP 2 _ (me2 hx hu hC) y z hz0 (by omega) hz2 hz3
  · exact stored_at hx hP 1 _ (me1 hx hu hC) y z hz0 (by omega) hz2 hz3
  · exact stored_at hx hP 0 _ (me0 hx hu hC) y z hz0 (by omega) hz2 hz3

end Pcen
end
-- ==== Proof.Sweep.lean ====
/- The kernel's sweep over the blocks of time: what the carry and the output block hold after each step, and the array
   after the last one. -/
module

public import proofs.«01_k».proof.Proof.Gen.KernelIdeal.Value
public import proofs.«01_k».proof.Proof.Payload
public import Idealize.ShloMosaic.Lib.Pipeline.ValueKit
public import Idealize.ShloMosaic.Lib.Pipeline.ReadBack
public import Idealize.ShloMosaic.Lib.WritesUnit

@[expose] public section

set_option maxRecDepth 16384

noncomputable section

namespace Pcen

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The index maps of the windows: the input and the output follow the grid along time, the tables stay. -/
theorem index_facts : ∀ t : Fin cfg0.N, win0_0.index t = ![0, 0, t.val] ∧ win0_1.index t = ![0, 0] ∧ win0_2.index t = ![0, 0, 0]
    ∧ win0_3.index t = ![0, 0, 0, t.val] := by
  decide +kernel

/-- The input block of a step. -/
theorem block_x (t : Fin cfg0.N) : HoldsX (iblk m c 0 t : Vec Ideal S8x128x256 .f32) (inX m c) t.val := by
  intro b f j
  have ht := lt_of_lt_of_eq t.isLt (show cfg0.N = 32 from N_0)
  have h : 256 * t.val + j.val < 8192 := by omega
  unfold ser
  rw [dif_pos h]
  refine Eq.trans ?_ (congrFun (V_main_arg0 m c) _)
  obtain ⟨e0, -, -, -⟩ := index_facts t
  blk_ext [iblk, e0]

/-- The weight table of a step. -/
theorem block_u (t : Fin cfg0.N) : HoldsU (iblk m c 1 t : Vec Ideal S512x1024 .f32) := by
  intro i k j
  rw [← host_table m c i k j]
  obtain ⟨-, e1, -, -⟩ := index_facts t
  blk_ext [iblk, e1]

/-- The parameter table of a step. -/
theorem block_p (t : Fin cfg0.N) : HoldsP (iblk m c 2 t : Vec Ideal S4x1024x256 .f32) (inA m c) (inD m c) (inR m c) := by
  intro k p j
  rw [← host_params m c k p j]
  obtain ⟨-, -, e2, -⟩ := index_facts t
  blk_ext [iblk, e2]

/-- The element of the result: batch, time constant, feature, position. -/
def outElem (b : Fin 8) (t : ℕ) (f : Fin 128) (k : ℕ) : EReal :=
  kerElem (ser (inX m c) b f k) (ema (sR t) (ser (inX m c) b f) (k + 1) + (epsR : EReal)) (inA m c (ix1 f)) (inD m c (ix1 f))
    (inR m c (ix1 f))

/-- What a step leaves: the carry of the next block, and the block of the result. -/
def StepOk (n : ℕ) (o : Vec Ideal S8x4x128x256 .f32 × Vec Ideal S1024x256 .f32) : Prop :=
  Carries o.2 (inX m c) (256 * (n + 1))
    ∧ ∀ y : S8x4x128x256.Idx, o.1 y = outElem m c (y 0) (y 1).val (y 2) (256 * n + (y 3).val)

/-- A carry whose first four lanes are the new averages and whose other lanes are kept. -/
theorem carries_next {X : Vec Ideal S8x128x8192 .f32} {C C' : Vec Ideal S1024x256 .f32} {a b : ℕ} (hC : Carries C X a)
    (hlow : ∀ (p : Fin 1024) (l : Fin 4), C' (ix2 p ⟨l.val, by omega⟩) = avg X l.val p b + (epsR : EReal))
    (hhigh : ∀ (p : Fin 1024) (l : Fin 256), ¬ l.val < 4 → C' (ix2 p l) = C (ix2 p l)) : Carries C' X b := by
  intro p l
  by_cases h : l.val < 4
  · rw [if_pos h]
    exact hlow p ⟨l.val, h⟩
  · rw [hhigh p l h, hC p l, if_neg h, if_neg h]

/-- A lane past the fourth is outside the four columns a step stores. -/
theorem lane_not_mem (p : Fin 1024) (l : Fin 256) (h : ¬ l.val < 4) :
    (ix2 p l : S1024x256.Idx) ∉ (Rect.unit ![0, 0] ![1024, 4] inb_S1024x256_S1024x4_0_0 : Rect S1024x256).set := by
  rw [Rect.mem_set_unit]
  intro hall
  have h1 := (hall 1).2
  exact h (lt_of_lt_of_eq h1 rfl)

/-- The first four lanes after a step's store over a carry stored whole. -/
theorem canon_low (w : Vec Ideal S1024x4 .f32) (C : Vec Ideal S1024x256 .f32) (p : Fin 1024) (l : Fin 4) :
    View.canon (Val := Elt Ideal) (s := S1024x256) (e := .f32)
      [⟨Rect.unit ![0, 0] ![1024, 4] inb_S1024x256_S1024x4_0_0, w⟩,
        ⟨Rect.unit ![0, 0] ![1024, 256] inb_S1024x256_S1024x256_0_0, C⟩] (ix2 p ⟨l.val, by omega⟩) = w (ix2 p l) := by
  have e : (ix2 p ⟨l.val, by omega⟩ : S1024x256.Idx)
      = (Rect.unit ![0, 0] ![1024, 4] inb_S1024x256_S1024x4_0_0 : Rect S1024x256).emb (ix2 p l) := by
    funext a
    refine Fin.ext ?_
    match a with
    | 0 => exact (by simp : p.val = 0 + 1 * p.val)
    | 1 => exact (by simp : l.val = 0 + 1 * l.val)
  rw [e]
  exact View.canon_cons_emb (Val := Elt Ideal) (e := .f32) (Rect.unit ![0, 0] ![1024, 4] inb_S1024x256_S1024x4_0_0 : Rect S1024x256) w
    _ (ix2 p l)

/-- The other lanes after such a store. -/
theorem canon_high (w : Vec Ideal S1024x4 .f32) (C : Vec Ideal S1024x256 .f32) (p : Fin 1024) (l : Fin 256) (h : ¬ l.val < 4) :
    View.canon (Val := Elt Ideal) (s := S1024x256) (e := .f32)
      [⟨Rect.unit ![0, 0] ![1024, 4] inb_S1024x256_S1024x4_0_0, w⟩,
        ⟨Rect.unit ![0, 0] ![1024, 256] inb_S1024x256_S1024x256_0_0, C⟩] (ix2 p l) = C (ix2 p l) := by
  refine (View.canon_cons_of_not_mem (Val := Elt Ideal) (s := S1024x256) (e := .f32)
    ⟨Rect.unit ![0, 0] ![1024, 4] inb_S1024x256_S1024x4_0_0, w⟩ [⟨Rect.unit ![0, 0] ![1024, 256] inb_S1024x256_S1024x256_0_0, C⟩]
    (lane_not_mem p l h)).trans ?_
  have e : (![0, 0] : Fin S1024x256.rank → ℕ) = fun _ => 0 := by
    funext a
    match a with
    | 0 => rfl
    | 1 => rfl
  exact congrFun (View.canon_unit_zero (Val := Elt Ideal) (S := S1024x256) (e := .f32) e inb_S1024x256_S1024x256_0_0 C) (ix2 p l)

/-- The first four lanes after a step's store over the carry before it. -/
theorem read_low {κ : Kind} {sp : Space} (v : View sig κ sp S1024x256 .f32) (g : v.ty.Contents (Elt Ideal))
    (w : Vec Ideal S1024x4 .f32) (p : Fin 1024) (l : Fin 4) :
    v.read (Elt Ideal) (v.writes (Elt Ideal) g [⟨Rect.unit ![0, 0] ![1024, 4] inb_S1024x256_S1024x4_0_0, w⟩])
      (ix2 p ⟨l.val, by omega⟩) = w (ix2 p l) := by
  refine View.read_writes_cons_unit_of_mem v g inb_S1024x256_S1024x4_0_0 w [] (ix2 p ⟨l.val, by omega⟩) (ix2 p l) rfl fun a => ?_
  match a with
  | 0 => exact (by simp : p.val = 0 + p.val)
  | 1 => exact (by simp : l.val = 0 + l.val)

/-- The other lanes after such a store. -/
theorem read_high {κ : Kind} {sp : Space} (v : View sig κ sp S1024x256 .f32) (g : v.ty.Contents (Elt Ideal))
    (w : Vec Ideal S1024x4 .f32) (p : Fin 1024) (l : Fin 256) (h : ¬ l.val < 4) :
    v.read (Elt Ideal) (v.writes (Elt Ideal) g [⟨Rect.unit ![0, 0] ![1024, 4] inb_S1024x256_S1024x4_0_0, w⟩]) (ix2 p l)
      = v.read (Elt Ideal) g (ix2 p l) :=
  View.read_writes_cons_unit_of_not_mem v g inb_S1024x256_S1024x4_0_0 w [] (ix2 p l) rfl (1 : Fin 2)
    (Or.inr (show 0 + 4 ≤ l.val by omega))

/-- The first step. -/
theorem step_first (t : Fin cfg0.N) (h0 : t.val % 32 = 0) : StepOk m c t.val (outsAt0 m c t.val t.isLt) := by
  have ht := lt_of_lt_of_eq t.isLt (show cfg0.N = 32 from N_0)
  have hx := block_x m c t
  have hC : Carries (k0_pay4 (iblk m c 0 t : Vec Ideal S8x128x256 .f32)) (inX m c) (256 * t.val) := by
    have e : t.val = 0 := by omega
    rw [e] at hx ⊢
    exact carry_start hx
  unfold StepOk
  rw [outsAt0_A m c t h0]
  dsimp only
  constructor
  · refine carries_next hC (fun p l => ?_) (fun p l h => ?_)
    · frame_out
      exact (canon_low _ _ p l).trans (carry_left hx (block_u m c t) hC p l)
    · frame_out
      exact canon_high _ _ p l h
  · intro y
    frame_out
    exact stored_block hx (block_u m c t) hC (block_p m c t) y

/-- A later step. -/
theorem step_next (t : Fin cfg0.N) (h0 : ¬ t.val % 32 = 0)
    (hC : Carries (outsAt0 m c (t.val - 1) (Nat.lt_of_le_of_lt (Nat.sub_le _ _) t.isLt)).2 (inX m c) (256 * t.val)) :
    StepOk m c t.val (outsAt0 m c t.val t.isLt) := by
  have hx := block_x m c t
  unfold StepOk
  rw [outsAt0_B m c t h0]
  dsimp only
  generalize (outsAt0 m c (t.val - 1) (Nat.lt_of_le_of_lt (Nat.sub_le _ _) t.isLt)).2 = C at hC ⊢
  constructor
  · refine carries_next hC (fun p l => ?_) (fun p l h => ?_)
    · frame_out
      simp only [read_unread_whole]
      exact (read_low _ _ _ p l).trans (carry_left hx (block_u m c t) hC p l)
    · frame_out
      simp only [read_unread_whole]
      exact (read_high _ _ _ p l h).trans (congrFun (read_unread_whole _ _ _) _)
  · intro y
    frame_out
    simp only [read_unread_whole]
    exact stored_block hx (block_u m c t) hC (block_p m c t) y

/-- Every step. -/
theorem step_all (n : ℕ) (hn : n < cfg0.N) : StepOk m c n (outsAt0 m c n hn) := by
  induction n with
  | zero => exact step_first m c ⟨0, hn⟩ rfl
  | succ n ih =>
    have hN := lt_of_lt_of_eq hn (show cfg0.N = 32 from N_0)
    refine step_next m c ⟨n + 1, hn⟩ ?_ (ih (Nat.lt_of_succ_lt hn)).1
    show ¬ (n + 1) % 32 = 0
    omega

/-- The kernel's array after the run. -/
theorem final_array : (Gen.dats m 0 c).arrAt 3 (cfgs 0).N
    = fun i : S8x4x128x8192.Idx => outElem m c (i 0) (i 1).val (i 2) (i 3).val := by
  refine (dats m 0 c).arrAt_eq_of_covers 3 _ (by decide +kernel) fun t hf y => ?_
  blk_simp
  rw [after0_3]
  refine ((step_all m c t.val t.isLt).2 y).trans ?_
  obtain ⟨-, -, -, e3⟩ := index_facts t
  congr 1
  · refine Fin.ext ?_
    blk_simp
    rw [e3]
    exact (by simp : (y 0).val = 0 * 8 + (y 0).val)
  · rw [e3]
    exact (by simp : (y 1).val = 0 * 4 + (y 1).val)
  · refine Fin.ext ?_
    blk_simp
    rw [e3]
    exact (by simp : (y 2).val = 0 * 128 + (y 2).val)
  · rw [e3]
    exact (by omega : 256 * t.val + (y 3).val = t.val * 256 + (y 3).val)

end Pcen
end
-- ==== Proof.Equal.lean ====
/- The kernel's array is the reference's: the precondition read at an element, and the two results side by side. -/
module

public import proofs.«01_k».proof.Defs
public import proofs.«01_k».proof.Proof.Sweep
public import proofs.«01_k».proof.Proof.RefRun
public import proofs.«01_k».proof.Proof.RefValue
public import proofs.«01_k».proof.Proof.Gen.Pre_nonneg
public import Idealize.ShloMosaic.Lib.ReduceAll
public import Idealize.ShloMosaic.Lib.Pointwise

@[expose] public section

set_option maxRecDepth 16384

noncomputable section

namespace Pcen

open Idealize.ShloMosaic Idealize.ShloMosaic.TcCoe Idealize.SL.Sem

/-- The precondition says that no element of the input is negative. -/
theorem nonneg_of_pre (x : Vec Ideal Cert.Pre_nonneg.S8x128x8192 .f32) (a d r : Vec Ideal Cert.Pre_nonneg.S128 .f32)
    (h : Cert.Pre_nonneg.fn (F := Ideal) x a d r = fun _ => 1#1) (b : Fin 8) (f : Fin 128) (k : Fin 8192) :
    (0 : EReal) ≤ x (ix3 b f k) := by
  have : Subsingleton Cert.Pre_nonneg.S_.Idx := ⟨fun i j => funext fun a => absurd a.isLt (Nat.not_lt_zero _)⟩
  have e := Host.reduce_andi_all _ _ _ _ (fun a => absurd a.isLt (Nat.not_lt_zero _)) (congrFun h _) (ix3 b f k)
  revert e
  pointwise
  intro e
  by_contra hn
  rw [decide_eq_false hn] at e
  exact absurd e (by decide)

/-- Over a non-negative input the reference's result is the kernel's array. -/
theorem result_elem (X : Vec Ideal Cert.KernelIdeal.S8x128x8192 .f32) (A D R : Vec Ideal Cert.KernelIdeal.S128 .f32)
    (hX : ∀ b f k, (0 : EReal) ≤ X (ix3 b f k)) (b : Fin 8) (t : Fin 4) (f : Fin 128) (k : Fin 8192) :
    Cert.ReferenceIdeal.Step.R_main_v55 (refState X 8192) X A D R (ix4 b t f k)
      = kerElem (ser X b f k.val) (ema (sR t.val) (ser X b f) (k.val + 1) + (epsR : EReal)) (A (ix1 f)) (D (ix1 f)) (R (ix1 f)) := by
  have hs : ser X b f k.val = X (ix3 b f k) := by
    unfold ser
    rw [dif_pos k.isLt]
  rw [refResult, refRows X 8192 le_rfl k k.isLt, hs, kerElem_eq (hX b f k)]

/-- The two arrays, from memories that agree on the arguments. -/
theorem arrays_eq (m : (ℓ : Loc Cert.KernelIdeal.nD Cert.KernelIdeal.τ Cert.KernelIdeal.sig) → Buf (Elt Ideal) ℓ)
    (c : Dev Cert.KernelIdeal.nD) (hX : ∀ b f k, (0 : EReal) ≤ inX m c (ix3 b f k)) :
    (Cert.KernelIdeal.Gen.dats m 0 c).arrAt 3 Cert.KernelIdeal.cfg0.N
      = Cert.ReferenceIdeal.Step.R_main_v55 (F := Ideal) (refState (inX m c) 8192) (inX m c) (inA m c) (inD m c) (inR m c) := by
  refine (final_array m c).trans (funext fun i => ?_)
  have e : i = ix4 (i 0 : Fin 8) (i 1 : Fin 4) (i 2 : Fin 128) (i 3 : Fin 8192) := by
    funext a
    match a with
    | 0 => rfl
    | 1 => rfl
    | 2 => rfl
    | 3 => rfl
  refine Eq.trans ?_ (congrArg _ e.symm)
  exact (result_elem (inX m c) (inA m c) (inD m c) (inR m c) hX (i 0) (i 1) (i 2) (i 3)).symm

end Pcen
end
-- ==== Proof.lean ====
/- The proof of the claims about multi-rate PCEN: the three programs run and leave arguments and semaphores as they were, the
   ideal kernel is the kernel with one constant named, and over the extended reals the kernel computes the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nonneg
public import proofs.«01_k».proof.Proof.Gen.KernelIdeal.Value
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and leaves every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, and where no input is negative, the kernel's result is the reference's. -/
theorem equal_results : Cert.algebraic_KernelIdeal_ReferenceIdeal_pre_nonneg
    (hKernelIdeal := Cert.KernelIdeal.Gen.facts) (hReferenceIdeal := Cert.ReferenceIdeal.Gen.facts)
    (hPre_nonneg := Cert.Pre_nonneg.Gen.facts) := by
  intro m g m' g' hpre hagree
  refine ⟨fun c => (Cert.KernelIdeal.Gen.dats m 0 c).arrAt 3 Cert.KernelIdeal.cfg0.N,
    Cert.KernelIdeal.Value.run_blocks (F := Ideal) m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3⟩ := hagree c
  refine (Pcen.result_eq m' c).trans ?_
  rw [h0, h1, h2, h3]
  exact (Pcen.arrays_eq m c (Pcen.nonneg_of_pre _ _ _ _ (hpre c))).symm

/-- All the claims. -/
theorem claim : Cert.Claim := ⟨Cert.Kernel.Gen.facts, Cert.KernelIdeal.Gen.facts, Cert.ReferenceIdeal.Gen.facts, Cert.Pre_nonneg.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  IdealRules.named_const.statement Cert.KernelIdeal.κ "inv_ln2" .f32 0x3FB8AA3B#32 (((Real.log 2)⁻¹ : ℝ) : EReal) rfl,
  equal_results⟩

end Cert.Proof

end
